-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nbr_in_rows [hPre_nbr_in_rows : Cert.Pre_nbr_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_nbr_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nbr_in_rows [hPre_nbr_in_rows : Cert.Pre_nbr_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nbr_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nbr_in_rows [hKernelIdeal : Cert.KernelIdeal.Facts] [hPre_nbr_in_rows : Cert.Pre_nbr_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nbr_in_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nbr_in_rows [hReferenceIdeal : Cert.ReferenceIdeal.Facts] [hPre_nbr_in_rows : Cert.Pre_nbr_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nbr_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nbr_in_rows [hKernelIdeal : Cert.KernelIdeal.Facts] [hReferenceIdeal : Cert.ReferenceIdeal.Facts] [hPre_nbr_in_rows : Cert.Pre_nbr_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nbr_in_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34_0) = v0 c
          ∧ r.2.mem ((c.tc : Thread Cert.ReferenceIdeal.nD Cert.ReferenceIdeal.τ).loc Cert.ReferenceIdeal.main_v34_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nbr_in_rows : Cert.Pre_nbr_in_rows.Facts),
    quiescent_Kernel (hKernel := hKernel)
    ∧ quiescent_KernelIdeal (hKernelIdeal := hKernelIdeal)
    ∧ quiescent_KernelIdeal_pre_nbr_in_rows (hKernelIdeal := hKernelIdeal) (hPre_nbr_in_rows := hPre_nbr_in_rows)
    ∧ quiescent_ReferenceIdeal (hReferenceIdeal := hReferenceIdeal)
    ∧ quiescent_ReferenceIdeal_pre_nbr_in_rows (hReferenceIdeal := hReferenceIdeal) (hPre_nbr_in_rows := hPre_nbr_in_rows)
    ∧ preserves_Kernel_KernelIdeal
    ∧ algebraic_KernelIdeal_ReferenceIdeal_pre_nbr_in_rows (hKernelIdeal := hKernelIdeal) (hReferenceIdeal := hReferenceIdeal) (hPre_nbr_in_rows := hPre_nbr_in_rows)
-- ==== Pre_nbr_in_rows.lean ====
abbrev S2x896x320 : Shape := ⟨3, ![2, 896, 320]⟩
abbrev S2x896 : Shape := ⟨2, ![2, 896]⟩
abbrev S2x224x8 : Shape := ⟨3, ![2, 224, 8]⟩
abbrev S8x320x384 : Shape := ⟨3, ![8, 320, 384]⟩
abbrev S384 : Shape := ⟨1, ![384]⟩
abbrev S_ : Shape := ⟨0, ![]⟩

class Facts : Prop where
  bcast_S_S2x224x8 : S_.BroadcastsInDim S2x224x8 (![] : Fin 0 → Fin S2x224x8.rank)
  reducesTo_S2x224x8_S_d0_1_2 : S2x224x8.ReducesTo [0, 1, 2] S_
  h_S_ : 0 < S_.numel

variable [Facts]

def fn {F : FTy → Type} [FloatOps F] (main_arg0 : FVec F S2x896x320 .fp8e4m3) (main_arg1 : FVec F S2x896 .f32) (main_arg2 : IVec S2x224x8 32) (main_arg3 : FVec F S8x320x384 .fp8e4m3) (main_arg4 : FVec F S384 .f32) (main_arg5 : FVec F S384 .f32) : IVec S_ 1 :=
  let main_c : IVec S_ 32 := constantI S_ 32 896#32
  let main_v0 : IVec S2x224x8 32 := broadcastInDim S2x224x8 ![] bcast_S_S2x224x8 main_c
  let main_v1 : IVec S2x224x8 1 := cmpi .slt main_arg2 main_v0
  let main_c_0 : IVec S_ 1 := constantI S_ 1 1#1
  let main_v2 : IVec S_ 1 := (fun x v => Host.reduce IntOp.andi x v reducesTo_S2x224x8_S_d0_1_2 h_S_) main_v1 main_c_0
  main_v2
-- ==== Kernel.lean ====
abbrev S2x896x320 : Shape := ⟨3, ![2, 896, 320]⟩
abbrev S2x896 : Shape := ⟨2, ![2, 896]⟩
abbrev S2x224x8 : Shape := ⟨3, ![2, 224, 8]⟩
abbrev S8x320x384 : Shape := ⟨3, ![8, 320, 384]⟩
abbrev S384 : Shape := ⟨1, ![384]⟩
abbrev S1x384 : Shape := ⟨2, ![1, 384]⟩
abbrev S2x224x384 : Shape := ⟨3, ![2, 224, 384]⟩
abbrev S2x224x1 : Shape := ⟨3, ![2, 224, 1]⟩
abbrev S448x2560 : Shape := ⟨2, ![448, 2560]⟩
abbrev S224x896 : Shape := ⟨2, ![224, 896]⟩
abbrev S1x896x320 : Shape := ⟨3, ![1, 896, 320]⟩
abbrev S896x320 : Shape := ⟨2, ![896, 320]⟩
abbrev S1x896 : Shape := ⟨2, ![1, 896]⟩
abbrev S1x224x1 : Shape := ⟨3, ![1, 224, 1]⟩
abbrev S224x1 : Shape := ⟨2, ![224, 1]⟩
abbrev S224x320 : Shape := ⟨2, ![224, 320]⟩
abbrev S2560x384 : Shape := ⟨2, ![2560, 384]⟩
abbrev S448x384 : Shape := ⟨2, ![448, 384]⟩
abbrev S448 : Shape := ⟨1, ![448]⟩
abbrev S448x1 : Shape := ⟨2, ![448, 1]⟩
abbrev S448x246 : Shape := ⟨2, ![448, 246]⟩
abbrev S224x384 : Shape := ⟨2, ![224, 384]⟩
abbrev S1x224x384 : Shape := ⟨3, ![1, 224, 384]⟩

abbrev nBuf : Space → Nat
  | .hbm => 10
  | .vmem => 9
  | .smem => 0
  | _ => 0

abbrev bufTy : (tb : Table) → Fin (tcTables nBuf tb) → BufTy
  | .hbm, ⟨0, _⟩ => ⟨S2x896x320, .fp8e4m3⟩
  | .hbm, ⟨1, _⟩ => ⟨S2x896, .f32⟩
  | .hbm, ⟨2, _⟩ => ⟨S2x224x8, .i32⟩
  | .hbm, ⟨3, _⟩ => ⟨S8x320x384, .fp8e4m3⟩
  | .hbm, ⟨4, _⟩ => ⟨S384, .f32⟩
  | .hbm, ⟨5, _⟩ => ⟨S384, .f32⟩
  | .hbm, ⟨6, _⟩ => ⟨S1x384, .f32⟩
  | .hbm, ⟨7, _⟩ => ⟨S1x384, .f32⟩
  | .hbm, ⟨8, _⟩ => ⟨S2x224x384, .fp8e4m3⟩
  | .hbm, ⟨9, _⟩ => ⟨S2x224x1, .f32⟩
  | .local _ .vmem, ⟨0, _⟩ => ⟨S2x896x320, .fp8e4m3⟩
  | .local _ .vmem, ⟨1, _⟩ => ⟨S2x896, .f32⟩
  | .local _ .vmem, ⟨2, _⟩ => ⟨S2x224x8, .i32⟩
  | .local _ .vmem, ⟨3, _⟩ => ⟨S8x320x384, .fp8e4m3⟩
  | .local _ .vmem, ⟨4, _⟩ => ⟨S1x384, .f32⟩
  | .local _ .vmem, ⟨5, _⟩ => ⟨S1x384, .f32⟩
  | .local _ .vmem, ⟨6, _⟩ => ⟨S2x224x384, .fp8e4m3⟩
  | .local _ .vmem, ⟨7, _⟩ => ⟨S2x224x1, .f32⟩
  | .local _ .vmem, ⟨8, _⟩ => ⟨S448x2560, .bf16⟩
  | _, _ => ⟨S2x896x320, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x896x320 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x224x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x320x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x224x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x224x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x896x320 : Shape := ⟨3, ![2, 896, 320]⟩
abbrev S2x896 : Shape := ⟨2, ![2, 896]⟩
abbrev S2x224x8 : Shape := ⟨3, ![2, 224, 8]⟩
abbrev S8x320x384 : Shape := ⟨3, ![8, 320, 384]⟩
abbrev S384 : Shape := ⟨1, ![384]⟩
abbrev S_ : Shape := ⟨0, ![]⟩
abbrev S2 : Shape := ⟨1, ![2]⟩
abbrev S2x1x1 : Shape := ⟨3, ![2, 1, 1]⟩
abbrev S2x224x8x1 : Shape := ⟨4, ![2, 224, 8, 1]⟩
abbrev S2x224x8x2 : Shape := ⟨4, ![2, 224, 8, 2]⟩
abbrev S2x224x8x320 : Shape := ⟨4, ![2, 224, 8, 320]⟩
abbrev S2x224x384 : Shape := ⟨3, ![2, 224, 384]⟩
abbrev S2x224x1 : Shape := ⟨3, ![2, 224, 1]⟩
abbrev S1x1x384 : Shape := ⟨3, ![1, 1, 384]⟩
abbrev S2x224 : Shape := ⟨2, ![2, 224]⟩
abbrev S1x1x247 : Shape := ⟨3, ![1, 1, 247]⟩
abbrev S2x224x247 : Shape := ⟨3, ![2, 224, 247]⟩

abbrev nBuf : Space → Nat
  | .hbm => 51
  | .vmem => 8
  | .smem => 0
  | _ => 0

abbrev bufTy : (tb : Table) → Fin (tcTables nBuf tb) → BufTy
  | .hbm, ⟨0, _⟩ => ⟨S2x896x320, .fp8e4m3⟩
  | .hbm, ⟨1, _⟩ => ⟨S2x896, .f32⟩
  | .hbm, ⟨2, _⟩ => ⟨S2x224x8, .i32⟩
  | .hbm, ⟨3, _⟩ => ⟨S8x320x384, .fp8e4m3⟩
  | .hbm, ⟨4, _⟩ => ⟨S384, .f32⟩
  | .hbm, ⟨5, _⟩ => ⟨S384, .f32⟩
  | .hbm, ⟨6, _⟩ => ⟨S_, .i32⟩
  | .hbm, ⟨7, _⟩ => ⟨S2x224x8, .i32⟩
  | .hbm, ⟨8, _⟩ => ⟨S2x224x8, .i32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i1⟩
  | .hbm, ⟨14, _⟩ => ⟨S_, .i32⟩
  | .hbm, ⟨15, _⟩ => ⟨S2x1x1, .i32⟩
  | .hbm, ⟨16, _⟩ => ⟨S2x1x1, .i32⟩
  | .hbm, ⟨17, _⟩ => ⟨S2x1x1, .i32⟩
  | .hbm, ⟨18, _⟩ => ⟨S_, .i32⟩
  | .hbm, ⟨19, _⟩ => ⟨S2x224x8, .i32⟩
  | .hbm, ⟨20, _⟩ => ⟨S2x224x8, .i1⟩
  | .hbm, ⟨21, _⟩ => ⟨S_, .i32⟩
  | .hbm, ⟨22, _⟩ => ⟨S2x224x8, .i32⟩
  | .hbm, ⟨23, _⟩ => ⟨S2x224x8, .i32⟩
  | .hbm, ⟨24, _⟩ => ⟨S2x224x8, .i32⟩
  | .hbm, ⟨25, _⟩ => ⟨S2x224x8, .i32⟩
  | .hbm, ⟨26, _⟩ => ⟨S2x224x8x1, .i32⟩
  | .hbm, ⟨27, _⟩ => ⟨S2x224x8x1, .i32⟩
  | .hbm, ⟨28, _⟩ => ⟨S2x224x8x2, .i32⟩
  | .hbm, ⟨29, _⟩ => ⟨S2x224x8x320, .fp8e4m3⟩
  | .hbm, ⟨30, _⟩ => ⟨S_, .i32⟩
  | .hbm, ⟨31, _⟩ => ⟨S2x1x1, .i32⟩
  | .hbm, ⟨32, _⟩ => ⟨S2x1x1, .i1⟩
  | .hbm, ⟨33, _⟩ => ⟨S_, .i32⟩
  | .hbm, ⟨34, _⟩ => ⟨S2x1x1, .i32⟩
  | .hbm, ⟨35, _⟩ => ⟨S2x1x1, .i32⟩
  | .hbm, ⟨36, _⟩ => ⟨S2x1x1, .i32⟩
  | .hbm, ⟨37, _⟩ => ⟨S_, .i32⟩
  | .hbm, ⟨38, _⟩ => ⟨S2x224x8, .i32⟩
  | .hbm, ⟨39, _⟩ => ⟨S2x224x8, .i1⟩
  | .hbm, ⟨40, _⟩ => ⟨S_, .i32⟩
  | .hbm, ⟨41, _⟩ => ⟨S2x224x8, .i32⟩
  | .hbm, ⟨42, _⟩ => ⟨S2x224x8, .i32⟩
  | .hbm, ⟨43, _⟩ => ⟨S2x224x8, .i32⟩
  | .hbm, ⟨44, _⟩ => ⟨S2x224x8, .i32⟩
  | .hbm, ⟨45, _⟩ => ⟨S2x224x8x1, .i32⟩
  | .hbm, ⟨46, _⟩ => ⟨S2x224x8x1, .i32⟩
  | .hbm, ⟨47, _⟩ => ⟨S2x224x8x2, .i32⟩
  | .hbm, ⟨48, _⟩ => ⟨S2x224x8, .f32⟩
  | .hbm, ⟨49, _⟩ => ⟨S2x224x384, .fp8e4m3⟩
  | .hbm, ⟨50, _⟩ => ⟨S2x224x1, .f32⟩
  | .local _ .vmem, ⟨0, _⟩ => ⟨S2x224x8x320, .fp8e4m3⟩
  | .local _ .vmem, ⟨1, _⟩ => ⟨S2x224x8, .f32⟩
  | .local _ .vmem, ⟨2, _⟩ => ⟨S2x224x8, .i32⟩
  | .local _ .vmem, ⟨3, _⟩ => ⟨S8x320x384, .fp8e4m3⟩
  | .local _ .vmem, ⟨4, _⟩ => ⟨S384, .f32⟩
  | .local _ .vmem, ⟨5, _⟩ => ⟨S384, .f32⟩
  | .local _ .vmem, ⟨6, _⟩ => ⟨S2x224x384, .fp8e4m3⟩
  | .local _ .vmem, ⟨7, _⟩ => ⟨S2x224x1, .f32⟩
  | _, _ => ⟨S2x896x320, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x224x8x320 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x224x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x224x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x320x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x224x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x224x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
/- The quantiser's exponent, on scalars. The kernel counts the thresholds `2 ^ (i - 126)`, `i < 246`, that lie at or below a row's
   scaled maximum and builds the scale and its inverse as bit patterns; the reference takes the least exponent in `[-126, 120]` whose
   power of two exceeds that maximum and calls `exp2`. Over the extended reals the two agree. -/
module

public import Idealize.ShloMosaic.Lib.Pointwise
public import Idealize.ShloMosaic.Lib.IndicatorCount
public import Idealize.ShloMosaic.Lib.SortNet.Extract

@[expose] public section

set_option maxRecDepth 16384

noncomputable section

namespace Cert.Tie

open Idealize.ShloMosaic

/-- The power of two that threshold `i` names. -/
def thr (i : ℕ) : EReal := (((2 : ℝ) ^ ((i : ℤ) - 126) : ℝ) : EReal)

theorem thr_mono {i j : ℕ} (h : i ≤ j) : thr i ≤ thr j := by
  unfold thr
  exact EReal.coe_le_coe_iff.mpr (zpow_le_zpow_right₀ (by norm_num) (by omega))

/-- The fields of the word `n * 2 ^ 23` for `n < 255`: positive sign, exponent field `n`, zero fraction. -/
theorem fields : ∀ n : Fin 255, ((BitVec.ofNat 32 n.val <<< 23).extractLsb' (8 + 23) 1 == 1#1) = false ∧
    ((BitVec.ofNat 32 n.val <<< 23).extractLsb' 23 8).toNat = n.val ∧ ((BitVec.ofNat 32 n.val <<< 23).extractLsb' 0 23).toNat = 0 := by
  decide +kernel

/-- A binary32 word with a positive sign, a normal exponent field and a zero fraction is a power of two. -/
theorem ieee_pow (b : BitVec 32) (n : ℕ) (h1 : 1 ≤ n) (h2 : n ≤ 254) (hs : (b.extractLsb' (8 + 23) 1 == 1#1) = false)
    (he : (b.extractLsb' 23 8).toNat = n) (hf : (b.extractLsb' 0 23).toNat = 0) :
    Ideal.ieee 8 23 b = (((2 : ℝ) ^ ((n : ℤ) - 127) : ℝ) : EReal) := by
  unfold Ideal.ieee
  simp only [hs, he, hf]
  have n1 : ¬ n = 2 ^ 8 - 1 := by norm_num; omega
  have n2 : ¬ n = 0 := by omega
  simp only [n1, n2, if_false]
  refine congrArg (fun r : ℝ => (r : EReal)) ?_
  have e : ((n : ℤ) - (2 ^ (8 - 1) - 1) - ((23 : ℕ) : ℤ)) = ((n : ℤ) - 127) - 23 := by norm_num
  rw [e, zpow_sub₀ (by norm_num : (2 : ℝ) ≠ 0)]
  norm_num
  ring

/-- The word `n * 2 ^ 23`, read as a binary32 number, is `2 ^ (n - 127)`. -/
theorem ofBits_shift (n : ℕ) (h1 : 1 ≤ n) (h2 : n ≤ 254) :
    Ideal.ofBits .f32 (BitVec.ofNat 32 n <<< 23) = (((2 : ℝ) ^ ((n : ℤ) - 127) : ℝ) : EReal) := by
  obtain ⟨hs, he, hf⟩ := fields ⟨n, by omega⟩
  exact ieee_pow _ n h1 h2 hs he hf

theorem pow_congr {a b : ℤ} (h : a = b) : (((2 : ℝ) ^ a : ℝ) : EReal) = (((2 : ℝ) ^ b : ℝ) : EReal) := by rw [h]

theorem exp2_int (k : ℤ) : Ideal.exp2 (((k : ℝ)) : EReal) = (((2 : ℝ) ^ k : ℝ) : EReal) := by
  show ((Real.rpow 2 (k : ℝ) : ℝ) : EReal) = _
  congr 1
  exact Real.rpow_intCast 2 k

theorem toInt_word : ∀ n : Fin 247, (IntOp.subi (BitVec.ofNat 32 n.val) 126#32).toInt = (n.val : ℤ) - 126 := by
  decide +kernel

theorem word_scale : ∀ n : Fin 247, IntOp.shli .vector (IntOp.addi (IntOp.subi (BitVec.ofNat 32 n.val) 126#32) 127#32) 23#32 = BitVec.ofNat 32 (n.val + 1) <<< 23 := by
  decide +kernel

theorem word_inv : ∀ n : Fin 247, IntOp.shli .vector (IntOp.subi 127#32 (IntOp.subi (BitVec.ofNat 32 n.val) 126#32)) 23#32 = BitVec.ofNat 32 (253 - n.val) <<< 23 := by
  decide +kernel

theorem word_thr : ∀ n : Fin 246, IntOp.shli .vector (IntOp.addi (BitVec.ofNat 32 n.val) 1#32) 23#32 = BitVec.ofNat 32 (n.val + 1) <<< 23 := by
  decide +kernel

/-- The kernel's threshold `i`. -/
theorem thr_bits (i : Fin 246) : Ideal.ofBits .f32 (IntOp.shli .vector (IntOp.addi (BitVec.ofNat 32 i.val) 1#32) 23#32) = thr i.val := by
  rw [word_thr, ofBits_shift _ (by omega) (by omega)]
  exact pow_congr (by push_cast; omega)

/-- The reference's power `i`. -/
theorem thr_exp2 (i : Fin 247) : FloatOps.exp2 (F := Ideal) (FloatOps.sitofp .f32 (IntOp.subi (BitVec.ofNat 32 i.val) 126#32)) = thr i.val := by
  show Ideal.exp2 ((((IntOp.subi (BitVec.ofNat 32 i.val) 126#32).toInt : ℝ)) : EReal) = _
  rw [toInt_word, exp2_int]
  rfl

/-- The scale's bit pattern is the power of two. -/
theorem scale_bits (n : ℕ) (h : n ≤ 246) :
    Ideal.ofBits .f32 (IntOp.shli .vector (IntOp.addi (IntOp.subi (BitVec.ofNat 32 n) 126#32) 127#32) 23#32)
      = FloatOps.exp2 (F := Ideal) (FloatOps.sitofp .f32 (IntOp.subi (BitVec.ofNat 32 n) 126#32)) := by
  rw [thr_exp2 ⟨n, by omega⟩, word_scale ⟨n, by omega⟩, ofBits_shift _ (by omega) (by simp only; omega)]
  exact pow_congr (by push_cast; omega)

/-- The inverse scale's bit pattern is the inverse power of two. -/
theorem inv_bits (n : ℕ) (h : n ≤ 246) :
    Ideal.ofBits .f32 (IntOp.shli .vector (IntOp.subi 127#32 (IntOp.subi (BitVec.ofNat 32 n) 126#32)) 23#32)
      = FloatOps.exp2 (F := Ideal) ((0 : EReal) - FloatOps.sitofp (F := Ideal) .f32 (IntOp.subi (BitVec.ofNat 32 n) 126#32) : EReal) := by
  rw [word_inv ⟨n, by omega⟩, ofBits_shift _ (by simp only; omega) (by simp only; omega)]
  show _ = Ideal.exp2 ((0 : EReal) - ((((IntOp.subi (BitVec.ofNat 32 n) 126#32).toInt : ℝ)) : EReal))
  rw [toInt_word ⟨n, by omega⟩]
  have e : (0 : EReal) - ((((n : ℤ) - 126 : ℤ) : ℝ) : EReal) = (((126 - (n : ℤ) : ℤ) : ℝ) : EReal) := by
    rw [← EReal.coe_zero, ← EReal.coe_sub]
    congr 1
    push_cast; ring
  rw [e, exp2_int]
  exact pow_congr (by simp only; omega)

/-- Where the thresholds cross `v`. -/
theorem crossing (v : EReal) : ∃ N ≤ 246, (∀ i < N, thr i ≤ v) ∧ (N < 246 → v < thr N) := by
  classical
  have hex : ∃ n, 246 ≤ n ∨ v < thr n := ⟨246, .inl le_rfl⟩
  refine ⟨Nat.find hex, Nat.find_min' hex (.inl le_rfl), fun i hi => ?_, fun h => ?_⟩
  · have := Nat.find_min hex hi
    push Not at this
    exact this.2
  · rcases Nat.find_spec hex with h' | h'
    · omega
    · exact h'

/-- The kernel's count of thresholds at or below `v`. -/
def count (v : EReal) : BitVec 32 :=
  Finset.fold IntOp.addi (0#32)
    (fun x : Fin 246 => BitVec.setWidth 32 (BitVec.ofBool (decide
      (Ideal.ofBits .f32 (IntOp.shli .vector (IntOp.addi (BitVec.ofNat 32 x.val) 1#32) 23#32) ≤ v)))) Finset.univ

/-- The reference's least exponent whose power of two exceeds `v`, at most 120. -/
def least (v : EReal) : BitVec 32 :=
  Finset.fold IntOp.minsi (2147483647#32)
    (fun x : Fin 247 => if v < (FloatOps.exp2 (F := Ideal) (FloatOps.sitofp .f32 (IntOp.subi (BitVec.ofNat 32 x.val) 126#32)) : EReal)
      then IntOp.subi (BitVec.ofNat 32 x.val) 126#32 else 120#32) Finset.univ

theorem card_lt (N : ℕ) (h : N ≤ 246) : (Finset.univ.filter fun k : Fin 246 => k.val < N).card = N := by
  rw [Fin.card_filter_val_lt]
  omega

theorem count_eq (v : EReal) (N : ℕ) (hN : N ≤ 246) (h1 : ∀ i < N, thr i ≤ v) (h2 : N < 246 → v < thr N) : count v = BitVec.ofNat 32 N := by
  unfold count
  rw [IndicatorCount.fold_addi_setWidth_eq_card]
  congr 1
  rw [← card_lt N hN]
  congr 1
  ext k
  simp only [Finset.mem_filter, Finset.mem_univ, true_and, thr_bits]
  constructor
  · intro h
    by_contra hk
    have hle : thr k.val ≤ v := by
      by_contra hn
      rw [decide_eq_false hn] at h
      exact absurd h (by decide)
    exact absurd (lt_of_lt_of_le (h2 (by omega)) ((thr_mono (by omega)).trans hle)) (lt_irrefl _)
  · intro h
    rw [decide_eq_true (h1 _ h)]
    rfl

theorem least_eq (v : EReal) (N : ℕ) (hN : N ≤ 246) (h1 : ∀ i < N, thr i ≤ v) (h2 : N < 246 → v < thr N) :
    least v = IntOp.subi (BitVec.ofNat 32 N) 126#32 := by
  unfold least
  apply BitVec.eq_of_toInt_eq
  rw [← Finset.fold_hom (op' := min) (m := BitVec.toInt) (fun a b => SortNet.toInt_minsi a b), toInt_word ⟨N, by omega⟩]
  simp only [thr_exp2]
  apply le_antisymm
  · rw [Finset.fold_min_le]
    refine .inr ⟨⟨N, by omega⟩, Finset.mem_univ _, ?_⟩
    rcases Nat.lt_or_ge N 246 with h | h
    · rw [if_pos (h2 h), toInt_word ⟨N, by omega⟩]
    · obtain rfl : N = 246 := by omega
      split
      · rw [toInt_word]
      · decide
  · rw [Finset.le_fold_min]
    refine ⟨le_trans (b := (120 : ℤ)) (by omega) (by decide), fun x _ => ?_⟩
    split
    · rename_i hx
      rw [toInt_word]
      have : ¬ x.val < N := fun h => absurd (lt_of_lt_of_le hx (h1 _ h)) (lt_irrefl _)
      omega
    · rw [show (120#32 : BitVec 32).toInt = 120 from by decide]
      omega

/-- The reference's exponent word of a row whose maximum is `a` and scaled maximum `v`. -/
def expo (a v : EReal) : BitVec 32 := open Classical in if a = 0 then 0#32 else least v

/-- The exponent word is one of the 247 exponents. -/
theorem expo_range (a v : EReal) : ∃ n ≤ 246, expo a v = IntOp.subi (BitVec.ofNat 32 n) 126#32 := by
  unfold expo
  obtain ⟨N, hN, h1, h2⟩ := crossing v
  split
  · exact ⟨126, by omega, by decide⟩
  · exact ⟨N, hN, least_eq v N hN h1 h2⟩

/-- The kernel's exponent word is the reference's. -/
theorem kernel_expo (a v : EReal) [Decidable (a = 0)] :
    Scalar.select (BitVec.ofBool (decide (a = 0))) (0#32) (IntOp.subi (count v) 126#32) = expo a v := by
  unfold expo
  obtain ⟨N, hN, h1, h2⟩ := crossing v
  rw [count_eq v N hN h1 h2, least_eq v N hN h1 h2]
  by_cases h : a = 0
  · rw [if_pos h, decide_eq_true h]; rfl
  · rw [if_neg h, decide_eq_false h]; rfl

/-- The kernel's scale is the reference's. -/
theorem scale_eq (a v : EReal) : Ideal.ofBits .f32 (IntOp.shli .vector (IntOp.addi (expo a v) 127#32) 23#32)
    = FloatOps.exp2 (F := Ideal) (FloatOps.sitofp .f32 (expo a v)) := by
  obtain ⟨n, hn, e⟩ := expo_range a v
  rw [e]
  exact scale_bits n hn

/-- The kernel's inverse scale is the reference's. -/
theorem inv_eq (a v : EReal) : Ideal.ofBits .f32 (IntOp.shli .vector (IntOp.subi 127#32 (expo a v)) 23#32)
    = FloatOps.exp2 (F := Ideal) ((0 : EReal) - FloatOps.sitofp (F := Ideal) .f32 (expo a v) : EReal) := by
  obtain ⟨n, hn, e⟩ := expo_range a v
  rw [e]
  exact inv_bits n hn

end Cert.Tie

end
-- ==== Proof.Spec.lean ====
/- What both programs compute, on the six argument arrays: gather by neighbour index, dequantise, contract with the weights, scale,
   shift, clamp below at zero, then quantise each row by a power of two. -/
module

public import proofs.«01_k».proof.Proof.Exponent

@[expose] public section

set_option maxRecDepth 16384

noncomputable section

namespace Cert.Tie

open Idealize.ShloMosaic

/-- The row that the index word `w` names: `max (w, 0)`, held inside the table. -/
def row (w : BitVec 32) : Fin 896 := ⟨min (IntOp.maxsi w 0#32).toInt.toNat 895, by omega⟩

section
variable (X : (⟨3, ![2, 896, 320]⟩ : Shape).Idx → EReal) (S : (⟨2, ![2, 896]⟩ : Shape).Idx → EReal)
  (N : (⟨3, ![2, 224, 8]⟩ : Shape).Idx → BitVec 32) (W : (⟨3, ![8, 320, 384]⟩ : Shape).Idx → EReal)
  (A B : (⟨1, ![384]⟩ : Shape).Idx → EReal)

/-- A neighbour's dequantised feature as the kernel forms it: a sum over all rows, at most one of which is selected. -/
def tile (b : Fin 2) (k : Fin 8) (t : Fin 224) (x : Fin 320) : EReal :=
  ∑ r : Fin 896, Scalar.select (IntOp.cmpi .eq (BitVec.ofNat 32 r.val) (N (ix3 b t k))) (S (ix2 b r) * X (ix3 b r x)) 0

/-- The convolution with scale, bias and the clamp at zero. -/
def conv (b : Fin 2) (t : Fin 224) (c : Fin 384) : EReal :=
  max ((∑ x : Fin 320, ∑ k : Fin 8, Scalar.select (IntOp.cmpi .sge (N (ix3 b t k)) 0#32)
      (X (ix3 b (row (N (ix3 b t k))) x) * S (ix2 b (row (N (ix3 b t k)))) * W (ix3 k x c)) 0) * A (ix1 c) + B (ix1 c)) 0

/-- The same with the kernel's gathered features and its flat contraction. -/
def convK (b : Fin 2) (t : Fin 224) (c : Fin 384) : EReal :=
  max ((∑ q : Fin 2560, tile X S N b ⟨q.val / 320, by omega⟩ t ⟨q.val % 320, by omega⟩
      * W (ix3 ⟨q.val / 320, by omega⟩ ⟨q.val % 320, by omega⟩ c)) * A (ix1 c) + B (ix1 c)) 0

end

/-- A row's greatest magnitude. -/
def amax (y : Fin 384 → EReal) : EReal :=
  Finset.fold max (Ideal.ofBits .f32 4286578688#32) (fun x => FloatOps.absf (F := Ideal) (φ := .f32) (y x)) Finset.univ

/-- A row's scaled maximum. -/
def vmax (y : Fin 384 → EReal) : EReal := amax y * Ideal.ofBits .f32 991054117#32

/-- A row's quantised entry. -/
def quant (y : Fin 384 → EReal) (c : Fin 384) : EReal :=
  min (Ideal.ofBits .f32 1138753536#32) (max (Ideal.ofBits .f32 3286237184#32)
    (y c * FloatOps.exp2 (F := Ideal) (φ := .f32) ((0 : EReal) - FloatOps.sitofp (F := Ideal) .f32 (expo (amax y) (vmax y)) : EReal)))

/-- A row's scale. -/
def scale (y : Fin 384 → EReal) : EReal := FloatOps.exp2 (F := Ideal) (φ := .f32) (FloatOps.sitofp .f32 (expo (amax y) (vmax y)))

end Cert.Tie

end
-- ==== Proof.Scratch.lean ====
/- The kernel's gathered block: sixteen one-hot products, one per batch and neighbour, read back as one array. -/
module

public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Tied

open Cert.KernelIdeal Cert.KernelIdeal.Gen Idealize.ShloMosaic Idealize.ShloMosaic.TcCoe Idealize.SL.Sem
open Idealize.ShloMosaic.Pipeline (Dat)
open Cert.Tie

variable (m : (ℓ : Loc nD τ sig) → Buf (Elt Ideal) ℓ)

theorem tile_apply (x : Vec Ideal S1x896x320 .fp8e4m3) (s : Vec Ideal S1x896 .f32) (n : Vec Ideal S1x224x1 .i32) (t : Fin 224) (c : Fin 320) :
    k0_pay3 x s n (ix2 t c) = (∑ r : Fin 896, Scalar.select (IntOp.cmpi .eq (BitVec.ofNat 32 r.val) (n (ix3 0 t 0))) (s (ix2 0 r) * x (ix3 0 r c)) 0 : EReal) := by
  pointwise [k0_pay3, k0_pay2]

/-- What the gathered block holds at row `224 b + t`, column `320 k + x`. -/
def block (c : Dev nD) : S448x2560.Idx → EReal := fun j =>
  tile (iblk m c 0 t0_0) (iblk m c 1 t0_0) (iblk m c 2 t0_0) ⟨(j 0).val / 224, by have := (j 0).isLt; simp at this; omega⟩
    ⟨(j 1).val / 320, by have := (j 1).isLt; simp at this; omega⟩ ⟨(j 0).val % 224, by omega⟩ ⟨(j 1).val % 320, by omega⟩

theorem piece_eq (c : Dev nD) (b k : ℕ) (hb : b < 2) (hk : k < 8) (y : S448x2560.Idx) (j : S224x320.Idx) (h0 : (y 0).val = 224 * b + (j 0).val) (h1 : (y 1).val = 320 * k + (j 1).val)
    (x : Vec Ideal S1x896x320 .fp8e4m3) (s : Vec Ideal S1x896 .f32) (n : Vec Ideal S1x224x1 .i32)
    (hx : ∀ r q, x (ix3 0 r q) = (iblk m c 0 t0_0 : Vec Ideal S2x896x320 .fp8e4m3) (ix3 ⟨b, hb⟩ r q)) (hs : ∀ r, s (ix2 0 r) = (iblk m c 1 t0_0 : Vec Ideal S2x896 .f32) (ix2 ⟨b, hb⟩ r))
    (hn : ∀ t, n (ix3 0 t 0) = (iblk m c 2 t0_0 : Vec Ideal S2x224x8 .i32) (ix3 ⟨b, hb⟩ t ⟨k, hk⟩)) :
    k0_pay3 x s n j = block m c y := by
  have l0 : (j 0).val < 224 := (j 0).isLt
  have l1 : (j 1).val < 320 := (j 1).isLt
  idx_vars j
  rw [tile_apply]
  unfold block tile
  have e0 : (y 0).val / 224 = b := by rw [h0]; omega
  have e1 : (y 0).val % 224 = j0.val := by rw [h0]; omega
  have e2 : (y 1).val / 320 = k := by rw [h1]; omega
  have e3 : (y 1).val % 320 = j1.val := by rw [h1]; omega
  simp only [hx, hs, hn, e0, e1, e2, e3]

theorem canon_block (c : Dev nD) (j : S448x2560.Idx) :
    View.canon (Val := Elt Ideal) (s := S448x2560) (e := .bf16) [
        ⟨Rect.unit ![224, 2240] ![224, 320] inb_S448x2560_S224x320_224_2240,
          k0_pay23 (k0_pay13 (View.ld (iblk m c 0 t0_0) (Rect.unit ![1, 0, 0] ![1, 896, 320] inb_S2x896x320_S1x896x320_1_0_0))) (k0_pay22 (iota Kind.tc S224x896 32 [1] iota_S224x896_d1_w32) (View.ld (iblk m c 1 t0_0) (Rect.unit ![1, 0] ![1, 896] inb_S2x896_S1x896_1_0)) (View.ld (iblk m c 2 t0_0) (Rect.unit ![1, 0, 7] ![1, 224, 1] inb_S2x224x8_S1x224x1_1_0_7)))⟩,
        ⟨Rect.unit ![224, 1920] ![224, 320] inb_S448x2560_S224x320_224_1920,
          k0_pay21 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 6] ![1, 224, 1] inb_S2x224x8_S1x224x1_1_0_6))⟩,
        ⟨Rect.unit ![224, 1600] ![224, 320] inb_S448x2560_S224x320_224_1600,
          k0_pay20 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 5] ![1, 224, 1] inb_S2x224x8_S1x224x1_1_0_5))⟩,
        ⟨Rect.unit ![224, 1280] ![224, 320] inb_S448x2560_S224x320_224_1280,
          k0_pay19 (k0_pay18 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 4] ![1, 224, 1] inb_S2x224x8_S1x224x1_1_0_4)))⟩,
        ⟨Rect.unit ![224, 960] ![224, 320] inb_S448x2560_S224x320_224_960,
          k0_pay17 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 3] ![1, 224, 1] inb_S2x224x8_S1x224x1_1_0_3))⟩,
        ⟨Rect.unit ![224, 640] ![224, 320] inb_S448x2560_S224x320_224_640,
          k0_pay16 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 2] ![1, 224, 1] inb_S2x224x8_S1x224x1_1_0_2))⟩,
        ⟨Rect.unit ![224, 320] ![224, 320] inb_S448x2560_S224x320_224_320,
          k0_pay15 (iota Kind.tc S224x896 32 [1] iota_S224x896_d1_w32) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 1] ![1, 224, 1] inb_S2x224x8_S1x224x1_1_0_1))⟩,
        ⟨Rect.unit ![224, 0] ![224, 320] inb_S448x2560_S224x320_224_0,
          k0_pay14 (iota Kind.tc S224x896 32 [1] iota_S224x896_d1_w32) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 0] ![1, 224, 1] inb_S2x224x8_S1x224x1_1_0_0))⟩,
        ⟨Rect.unit ![0, 2240] ![224, 320] inb_S448x2560_S224x320_0_2240,
          k0_pay12 (k0_pay11 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 7] ![1, 224, 1] inb_S2x224x8_S1x224x1_0_0_7)))⟩,
        ⟨Rect.unit ![0, 1920] ![224, 320] inb_S448x2560_S224x320_0_1920,
          k0_pay10 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 6] ![1, 224, 1] inb_S2x224x8_S1x224x1_0_0_6))⟩,
        ⟨Rect.unit ![0, 1600] ![224, 320] inb_S448x2560_S224x320_0_1600,
          k0_pay9 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 5] ![1, 224, 1] inb_S2x224x8_S1x224x1_0_0_5))⟩,
        ⟨Rect.unit ![0, 1280] ![224, 320] inb_S448x2560_S224x320_0_1280,
          k0_pay8 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 4] ![1, 224, 1] inb_S2x224x8_S1x224x1_0_0_4))⟩,
        ⟨Rect.unit ![0, 960] ![224, 320] inb_S448x2560_S224x320_0_960,
          k0_pay7 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 3] ![1, 224, 1] inb_S2x224x8_S1x224x1_0_0_3))⟩,
        ⟨Rect.unit ![0, 640] ![224, 320] inb_S448x2560_S224x320_0_640,
          k0_pay6 (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (k0_pay5 (View.ld (iblk m c 2 t0_0) (Rect.unit ![0, 0, 2] ![1, 224, 1] inb_S2x224x8_S1x224x1_0_0_2)))⟩,
        ⟨Rect.unit ![0, 320] ![224, 320] inb_S448x2560_S224x320_0_320,
          k0_pay4 (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 1] ![1, 224, 1] inb_S2x224x8_S1x224x1_0_0_1))⟩,
        ⟨Rect.unit ![0, 0] ![224, 320] inb_S448x2560_S224x320_0_0,
          k0_pay3 (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 0] ![1, 224, 1] inb_S2x224x8_S1x224x1_0_0_0))⟩] j = block m c j := by
  canon_tiles j h
  · exact piece_eq m c 1 7 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 7] ![1, 224, 1] inb_S2x224x8_S1x224x1_1_0_7)) (fun r q => by pointwise) (fun r => by pointwise) (fun t => by pointwise)
  · exact piece_eq m c 1 6 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 6] ![1, 224, 1] inb_S2x224x8_S1x224x1_1_0_6)) (fun r q => by pointwise) (fun r => by pointwise) (fun t => by pointwise)
  · exact piece_eq m c 1 5 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 5] ![1, 224, 1] inb_S2x224x8_S1x224x1_1_0_5)) (fun r q => by pointwise) (fun r => by pointwise) (fun t => by pointwise)
  · exact piece_eq m c 1 4 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 4] ![1, 224, 1] inb_S2x224x8_S1x224x1_1_0_4)) (fun r q => by pointwise) (fun r => by pointwise) (fun t => by pointwise)
  · exact piece_eq m c 1 3 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 3] ![1, 224, 1] inb_S2x224x8_S1x224x1_1_0_3)) (fun r q => by pointwise) (fun r => by pointwise) (fun t => by pointwise)
  · exact piece_eq m c 1 2 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 2] ![1, 224, 1] inb_S2x224x8_S1x224x1_1_0_2)) (fun r q => by pointwise) (fun r => by pointwise) (fun t => by pointwise)
  · exact piece_eq m c 1 1 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 1] ![1, 224, 1] inb_S2x224x8_S1x224x1_1_0_1)) (fun r q => by pointwise) (fun r => by pointwise) (fun t => by pointwise)
  · exact piece_eq m c 1 0 (by omega) (by omega) _ j (by show _ = 224 * _ + _; omega) (by show _ = 320 * _ + _; omega) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 0] ![1, 224, 1] inb_S2x224x8_S1x224x1_1_0_0)) (fun r q => by pointwise) (fun r => by pointwise) (fun t => by pointwise)
  · exact piece_eq m c 0 7 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 7] ![1, 224, 1] inb_S2x224x8_S1x224x1_0_0_7)) (fun r q => by pointwise) (fun r => by pointwise) (fun t => by pointwise)
  · exact piece_eq m c 0 6 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 6] ![1, 224, 1] inb_S2x224x8_S1x224x1_0_0_6)) (fun r q => by pointwise) (fun r => by pointwise) (fun t => by pointwise)
  · exact piece_eq m c 0 5 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 5] ![1, 224, 1] inb_S2x224x8_S1x224x1_0_0_5)) (fun r q => by pointwise) (fun r => by pointwise) (fun t => by pointwise)
  · exact piece_eq m c 0 4 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 4] ![1, 224, 1] inb_S2x224x8_S1x224x1_0_0_4)) (fun r q => by pointwise) (fun r => by pointwise) (fun t => by pointwise)
  · exact piece_eq m c 0 3 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 3] ![1, 224, 1] inb_S2x224x8_S1x224x1_0_0_3)) (fun r q => by pointwise) (fun r => by pointwise) (fun t => by pointwise)
  · exact piece_eq m c 0 2 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 2] ![1, 224, 1] inb_S2x224x8_S1x224x1_0_0_2)) (fun r q => by pointwise) (fun r => by pointwise) (fun t => by pointwise)
  · exact piece_eq m c 0 1 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 1] ![1, 224, 1] inb_S2x224x8_S1x224x1_0_0_1)) (fun r q => by pointwise) (fun r => by pointwise) (fun t => by pointwise)
  · exact piece_eq m c 0 0 (by omega) (by omega) _ j (by show _ = 224 * _ + _; omega) (by show _ = 320 * _ + _; omega) (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 0] ![1, 224, 1] inb_S2x224x8_S1x224x1_0_0_0)) (fun r q => by pointwise) (fun r => by pointwise) (fun t => by pointwise)

theorem read_block (c : Dev nD) {κ : Kind} {sp : Space} (v : View sig κ sp S448x2560 .bf16) :
    v.readCov (Val := Elt Ideal) [
        ⟨Rect.unit ![224, 2240] ![224, 320] inb_S448x2560_S224x320_224_2240,
          k0_pay23 (k0_pay13 (View.ld (iblk m c 0 t0_0) (Rect.unit ![1, 0, 0] ![1, 896, 320] inb_S2x896x320_S1x896x320_1_0_0))) (k0_pay22 (iota Kind.tc S224x896 32 [1] iota_S224x896_d1_w32) (View.ld (iblk m c 1 t0_0) (Rect.unit ![1, 0] ![1, 896] inb_S2x896_S1x896_1_0)) (View.ld (iblk m c 2 t0_0) (Rect.unit ![1, 0, 7] ![1, 224, 1] inb_S2x224x8_S1x224x1_1_0_7)))⟩,
        ⟨Rect.unit ![224, 1920] ![224, 320] inb_S448x2560_S224x320_224_1920,
          k0_pay21 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 6] ![1, 224, 1] inb_S2x224x8_S1x224x1_1_0_6))⟩,
        ⟨Rect.unit ![224, 1600] ![224, 320] inb_S448x2560_S224x320_224_1600,
          k0_pay20 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 5] ![1, 224, 1] inb_S2x224x8_S1x224x1_1_0_5))⟩,
        ⟨Rect.unit ![224, 1280] ![224, 320] inb_S448x2560_S224x320_224_1280,
          k0_pay19 (k0_pay18 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 4] ![1, 224, 1] inb_S2x224x8_S1x224x1_1_0_4)))⟩,
        ⟨Rect.unit ![224, 960] ![224, 320] inb_S448x2560_S224x320_224_960,
          k0_pay17 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 3] ![1, 224, 1] inb_S2x224x8_S1x224x1_1_0_3))⟩,
        ⟨Rect.unit ![224, 640] ![224, 320] inb_S448x2560_S224x320_224_640,
          k0_pay16 (iota Kind.tc S224x896 32 [1] iota_S224x896_d1_w32) (k0_pay13 (View.ld (iblk m c 0 t0_0) (Rect.unit ![1, 0, 0] ![1, 896, 320] inb_S2x896x320_S1x896x320_1_0_0))) (View.ld (iblk m c 1 t0_0) (Rect.unit ![1, 0] ![1, 896] inb_S2x896_S1x896_1_0)) (View.ld (iblk m c 2 t0_0) (Rect.unit ![1, 0, 2] ![1, 224, 1] inb_S2x224x8_S1x224x1_1_0_2))⟩,
        ⟨Rect.unit ![224, 320] ![224, 320] inb_S448x2560_S224x320_224_320,
          k0_pay15 (iota Kind.tc S224x896 32 [1] iota_S224x896_d1_w32) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 1] ![1, 224, 1] inb_S2x224x8_S1x224x1_1_0_1))⟩,
        ⟨Rect.unit ![224, 0] ![224, 320] inb_S448x2560_S224x320_224_0,
          k0_pay14 (iota Kind.tc S224x896 32 [1] iota_S224x896_d1_w32) (View.ld (iblk m c 0 t0_0) (Rect.unit ![1, 0, 0] ![1, 896, 320] inb_S2x896x320_S1x896x320_1_0_0)) (View.ld (iblk m c 1 t0_0) (Rect.unit ![1, 0] ![1, 896] inb_S2x896_S1x896_1_0)) (View.ld (iblk m c 2 t0_0) (Rect.unit ![1, 0, 0] ![1, 224, 1] inb_S2x224x8_S1x224x1_1_0_0))⟩,
        ⟨Rect.unit ![0, 2240] ![224, 320] inb_S448x2560_S224x320_0_2240,
          k0_pay12 (k0_pay11 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 7] ![1, 224, 1] inb_S2x224x8_S1x224x1_0_0_7)))⟩,
        ⟨Rect.unit ![0, 1920] ![224, 320] inb_S448x2560_S224x320_0_1920,
          k0_pay10 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 6] ![1, 224, 1] inb_S2x224x8_S1x224x1_0_0_6))⟩,
        ⟨Rect.unit ![0, 1600] ![224, 320] inb_S448x2560_S224x320_0_1600,
          k0_pay9 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 5] ![1, 224, 1] inb_S2x224x8_S1x224x1_0_0_5))⟩,
        ⟨Rect.unit ![0, 1280] ![224, 320] inb_S448x2560_S224x320_0_1280,
          k0_pay8 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 4] ![1, 224, 1] inb_S2x224x8_S1x224x1_0_0_4))⟩,
        ⟨Rect.unit ![0, 960] ![224, 320] inb_S448x2560_S224x320_0_960,
          k0_pay7 (iota Kind.tc S224x896 32 [1] iota_S224x896_d1_w32) (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (View.ld (iblk m c 2 t0_0) (Rect.unit ![0, 0, 3] ![1, 224, 1] inb_S2x224x8_S1x224x1_0_0_3))⟩,
        ⟨Rect.unit ![0, 640] ![224, 320] inb_S448x2560_S224x320_0_640,
          k0_pay6 (k0_pay2 (View.ld (iblk m c 0 t0_0) (Rect.unit ![0, 0, 0] ![1, 896, 320] inb_S2x896x320_S1x896x320_0_0_0))) (View.ld (iblk m c 1 t0_0) (Rect.unit ![0, 0] ![1, 896] inb_S2x896_S1x896_0_0)) (k0_pay5 (View.ld (iblk m c 2 t0_0) (Rect.unit ![0, 0, 2] ![1, 224, 1] inb_S2x224x8_S1x224x1_0_0_2)))⟩,
        ⟨Rect.unit ![0, 320] ![224, 320] inb_S448x2560_S224x320_0_320,
          k0_pay4 (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 1] ![1, 224, 1] inb_S2x224x8_S1x224x1_0_0_1))⟩,
        ⟨Rect.unit ![0, 0] ![224, 320] inb_S448x2560_S224x320_0_0,
          k0_pay3 (View.ld (iblk m c 0 t0_0) (Rect.unit ![0, 0, 0] ![1, 896, 320] inb_S2x896x320_S1x896x320_0_0_0)) (View.ld (iblk m c 1 t0_0) (Rect.unit ![0, 0] ![1, 896] inb_S2x896_S1x896_0_0)) (View.ld (iblk m c 2 t0_0) (Rect.unit ![0, 0, 0] ![1, 224, 1] inb_S2x224x8_S1x224x1_0_0_0))⟩] (Rect.unit ![0, 0] ![448, 2560] inb_S448x2560_S448x2560_0_0).toLoadRect = block m c := by
  rw [View.readCov_eq_canon']
  funext j
  rw [canon_block]
  congr 1
  funext a
  apply Fin.ext
  match a with
  | ⟨0, _⟩ => simp
  | ⟨1, _⟩ => simp

end Cert.KernelIdeal.Tied
end
-- ==== Proof.KernelValue.lean ====
/- The kernel's two results, entry by entry. -/
module

public import proofs.«01_k».proof.Proof.Gen.KernelIdeal.Frame
public import proofs.«01_k».proof.Proof.Scratch
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Tied

open Cert.KernelIdeal Cert.KernelIdeal.Gen Idealize.ShloMosaic Idealize.ShloMosaic.TcCoe Idealize.SL.Sem
open Idealize.ShloMosaic.Pipeline (Dat)
open Cert.Tie

variable (m : (ℓ : Loc nD τ sig) → Buf (Elt Ideal) ℓ)

theorem in_0 (c : Dev nD) : (iblk m c 0 t0_0 : Vec Ideal S2x896x320 .fp8e4m3) = m ((c.tc : Thread nD τ).loc main_arg0) := by
  funext j
  idx_vars j
  blk_ext [iblk, V, t0_0]
  all_goals exact Nat.zero_add _

theorem in_1 (c : Dev nD) : (iblk m c 1 t0_0 : Vec Ideal S2x896 .f32) = m ((c.tc : Thread nD τ).loc main_arg1) := by
  funext j
  idx_vars j
  blk_ext [iblk, V, t0_0]
  all_goals exact Nat.zero_add _

theorem in_2 (c : Dev nD) : (iblk m c 2 t0_0 : Vec Ideal S2x224x8 .i32) = m ((c.tc : Thread nD τ).loc main_arg2) := by
  funext j
  idx_vars j
  blk_ext [iblk, V, t0_0]
  all_goals exact Nat.zero_add _

theorem in_3 (c : Dev nD) : (iblk m c 3 t0_0 : Vec Ideal S8x320x384 .fp8e4m3) = m ((c.tc : Thread nD τ).loc main_arg3) := by
  funext j
  idx_vars j
  blk_ext [iblk, V, t0_0]
  all_goals exact Nat.zero_add _

theorem in_4 (c : Dev nD) (x : Fin 384) : (iblk m c 4 t0_0 : Vec Ideal S1x384 .f32) (ix2 0 x) = m ((c.tc : Thread nD τ).loc main_arg4) (ix1 x) := by
  blk_simp [iblk]
  entry_read
  pointwise
  refine congrArg (m (c, Proc.tc.devRef main_arg4)) (congrArg ix1 (Fin.ext ?_))
  blk_simp [t0_0]
  exact Nat.zero_add _

theorem in_5 (c : Dev nD) (x : Fin 384) : (iblk m c 5 t0_0 : Vec Ideal S1x384 .f32) (ix2 0 x) = m ((c.tc : Thread nD τ).loc main_arg5) (ix1 x) := by
  blk_simp [iblk]
  entry_read
  pointwise
  refine congrArg (m (c, Proc.tc.devRef main_arg5)) (congrArg ix1 (Fin.ext ?_))
  blk_simp [t0_0]
  exact Nat.zero_add _

section
variable (w : Vec Ideal S8x320x384 .fp8e4m3) (g : Vec Ideal S448x2560 .bf16) (a b : Vec Ideal S1x384 .f32)

/-- A row of the kernel's convolution. -/
def krow (r : Fin 448) : Fin 384 → EReal := fun x => k0_pay24 w g a b (ix2 r x)

theorem pay24_apply (r : Fin 448) (x : Fin 384) : k0_pay24 w g a b (ix2 r x)
    = (max ((∑ q : Fin 2560, g (ix2 r q) * w (ix3 ⟨q.val / 320, by omega⟩ ⟨q.val % 320, by omega⟩ x)) * a (ix2 0 x) + b (ix2 0 x)) 0 : EReal) := by
  pointwise [k0_pay24]

theorem pay25_apply (r : Fin 448) : k0_pay25 w g a b (ix2 r 0) = amax (krow w g a b r) := by
  pointwise [k0_pay25]
  rfl

theorem pay26_apply (r : Fin 448) : k0_pay26 w g a b (ix2 r 0) = BitVec.ofBool (decide (amax (krow w g a b r) = 0)) := by
  pointwise [k0_pay26]
  rw [pay25_apply]

set_option maxRecDepth 65536 in
theorem pay27_raw (r : Fin 448) : k0_pay27 w g a b (ix2 r 0) = count (k0_pay25 w g a b (ix2 r 0) * Ideal.ofBits .f32 991054117#32) := by
  pointwise [k0_pay27]
  rfl

theorem pay27_apply (r : Fin 448) : k0_pay27 w g a b (ix2 r 0) = count (vmax (krow w g a b r)) :=
  (pay27_raw w g a b r).trans (congrArg (fun z : EReal => count (z * Ideal.ofBits .f32 991054117#32)) (pay25_apply w g a b r))

theorem pay29_apply (r : Fin 448) : k0_pay29 (k0_pay26 w g a b) (k0_pay27 w g a b) k0_pay28 (ix2 r 0)
    = expo (amax (krow w g a b r)) (vmax (krow w g a b r)) := by
  pointwise [k0_pay29]
  rw [pay26_apply, pay27_apply]
  exact kernel_expo _ _

theorem pay30_apply (r : Fin 448) : k0_pay30 (F := Ideal) (k0_pay26 w g a b) (k0_pay27 w g a b) k0_pay28 (ix2 r 0) = scale (krow w g a b r) := by
  pointwise [k0_pay30]
  rw [pay29_apply]
  exact scale_eq _ _

theorem pay31_apply (r : Fin 448) (x : Fin 384) :
    k0_pay31 (k0_pay24 w g a b) (k0_pay26 w g a b) (k0_pay27 w g a b) k0_pay28 (ix2 r x) = quant (krow w g a b r) x := by
  pointwise [k0_pay31]
  rw [pay29_apply, inv_eq]
  rfl

theorem pay32_apply (t : Fin 224) (x : Fin 384) :
    k0_pay32 (k0_pay24 w g a b) (k0_pay26 w g a b) (k0_pay27 w g a b) k0_pay28 (ix3 0 t x) = quant (krow w g a b ⟨t.val, by omega⟩) x := by
  rw [← pay31_apply]
  pointwise [k0_pay32]

theorem pay34_apply (t : Fin 224) (x : Fin 384) :
    k0_pay34 (k0_pay24 w g a b) (k0_pay26 w g a b) (k0_pay27 w g a b) k0_pay28 (ix3 0 t x) = quant (krow w g a b ⟨224 + t.val, by omega⟩) x := by
  rw [← pay31_apply]
  pointwise [k0_pay34]

theorem pay33_apply (t : Fin 224) :
    k0_pay33 (F := Ideal) (k0_pay26 w g a b) (k0_pay27 w g a b) k0_pay28 (ix3 0 t 0) = scale (krow w g a b ⟨t.val, by omega⟩) := by
  rw [← pay30_apply]
  pointwise [k0_pay33]

theorem pay35_apply (t : Fin 224) :
    k0_pay1 (F := Ideal) (k0_pay35 (F := Ideal) (k0_pay26 w g a b) (k0_pay27 w g a b) k0_pay28) (ix3 0 t 0) = scale (krow w g a b ⟨224 + t.val, by omega⟩) := by
  rw [← pay30_apply]
  pointwise [k0_pay1, k0_pay35]

end

/-- The kernel's row `224 b + t` is the convolution at batch `b`, point `t`. -/
theorem krow_eq (c : Dev nD) (b : Fin 2) (t : Fin 224) (r : Fin 448) (hr : r.val = 224 * b.val + t.val) :
    krow (iblk m c 3 t0_0) (block m c) (iblk m c 4 t0_0) (iblk m c 5 t0_0) r
      = convK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b t := by
  funext x
  unfold krow convK
  rw [pay24_apply, in_4, in_5, in_3]
  have hb (q : Fin 2560) : block m c (ix2 r q) = tile (iblk m c 0 t0_0) (iblk m c 1 t0_0) (iblk m c 2 t0_0) ⟨r.val / 224, by omega⟩
      ⟨q.val / 320, by omega⟩ ⟨r.val % 224, by omega⟩ ⟨q.val % 320, by omega⟩ := rfl
  simp only [hb]
  rw [in_0, in_1, in_2]
  have e0 : r.val / 224 = b.val := by rw [hr]; omega
  have e1 : r.val % 224 = t.val := by rw [hr]; omega
  simp only [e0, e1]

/-- The convolution on this program's arguments. -/
def out (c : Dev nD) : Fin 2 → Fin 224 → Fin 384 → EReal :=
  convK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The first result. -/
def G6 (c : Dev nD) : S2x224x384.Idx → EReal := fun j => quant (out m c ⟨(j 0).val, (j 0).isLt⟩ ⟨(j 1).val, (j 1).isLt⟩) ⟨(j 2).val, (j 2).isLt⟩

/-- The second result. -/
def G7 (c : Dev nD) : S2x224x1.Idx → EReal := fun j => scale (out m c ⟨(j 0).val, (j 0).isLt⟩ ⟨(j 1).val, (j 1).isLt⟩)

theorem hi6 (c : Dev nD) (j : S1x224x384.Idx) (y : S2x224x384.Idx) (h0 : (y 0).val = 1 + (j 0).val) (h1 : (y 1).val = (j 1).val) (h2 : (y 2).val = (j 2).val) :
    k0_pay34 (k0_pay24 (iblk m c 3 t0_0) (block m c) (iblk m c 4 t0_0) (iblk m c 5 t0_0)) (k0_pay26 (iblk m c 3 t0_0) (block m c) (iblk m c 4 t0_0) (iblk m c 5 t0_0)) (k0_pay27 (iblk m c 3 t0_0) (block m c) (iblk m c 4 t0_0) (iblk m c 5 t0_0)) k0_pay28 j = G6 m c y := by
  idx_vars j
  idx_vars y
  obtain rfl : j0 = 0 := Subsingleton.elim _ _
  obtain rfl : y0 = 1 := Fin.ext h0
  obtain rfl : y1 = j1 := Fin.ext h1
  obtain rfl : y2 = j2 := Fin.ext h2
  rw [pay34_apply, krow_eq m c 1 y1 _ (by simp)]
  rfl

theorem lo6 (c : Dev nD) (j : S1x224x384.Idx) (y : S2x224x384.Idx) (h0 : (y 0).val = (j 0).val) (h1 : (y 1).val = (j 1).val) (h2 : (y 2).val = (j 2).val) :
    k0_pay32 (k0_pay24 (iblk m c 3 t0_0) (block m c) (iblk m c 4 t0_0) (iblk m c 5 t0_0)) (k0_pay26 (iblk m c 3 t0_0) (block m c) (iblk m c 4 t0_0) (iblk m c 5 t0_0)) (k0_pay27 (iblk m c 3 t0_0) (block m c) (iblk m c 4 t0_0) (iblk m c 5 t0_0)) k0_pay28 j = G6 m c y := by
  idx_vars j
  idx_vars y
  obtain rfl : j0 = 0 := Subsingleton.elim _ _
  obtain rfl : y0 = 0 := Fin.ext h0
  obtain rfl : y1 = j1 := Fin.ext h1
  obtain rfl : y2 = j2 := Fin.ext h2
  rw [pay32_apply, krow_eq m c 0 y1 _ (by simp)]
  rfl

theorem hi7 (c : Dev nD) (j : S1x224x1.Idx) (y : S2x224x1.Idx) (h0 : (y 0).val = 1 + (j 0).val) (h1 : (y 1).val = (j 1).val) (h2 : (y 2).val = (j 2).val) :
    k0_pay1 (F := Ideal) (k0_pay35 (F := Ideal) (k0_pay26 (iblk m c 3 t0_0) (block m c) (iblk m c 4 t0_0) (iblk m c 5 t0_0)) (k0_pay27 (iblk m c 3 t0_0) (block m c) (iblk m c 4 t0_0) (iblk m c 5 t0_0)) k0_pay28) j = G7 m c y := by
  idx_vars j
  idx_vars y
  obtain rfl : j0 = 0 := Subsingleton.elim _ _
  obtain rfl : y0 = 1 := Fin.ext h0
  obtain rfl : y1 = j1 := Fin.ext h1
  obtain rfl : j2 = 0 := Subsingleton.elim _ _
  rw [pay35_apply, krow_eq m c 1 y1 _ (by simp)]
  rfl

theorem lo7 (c : Dev nD) (j : S1x224x1.Idx) (y : S2x224x1.Idx) (h0 : (y 0).val = (j 0).val) (h1 : (y 1).val = (j 1).val) (h2 : (y 2).val = (j 2).val) :
    k0_pay33 (F := Ideal) (k0_pay26 (iblk m c 3 t0_0) (block m c) (iblk m c 4 t0_0) (iblk m c 5 t0_0)) (k0_pay27 (iblk m c 3 t0_0) (block m c) (iblk m c 4 t0_0) (iblk m c 5 t0_0)) k0_pay28 j = G7 m c y := by
  idx_vars j
  idx_vars y
  obtain rfl : j0 = 0 := Subsingleton.elim _ _
  obtain rfl : y0 = 0 := Fin.ext h0
  obtain rfl : y1 = j1 := Fin.ext h1
  obtain rfl : j2 = 0 := Subsingleton.elim _ _
  rw [pay33_apply, krow_eq m c 0 y1 _ (by simp)]
  rfl

theorem out6 (c : Dev nD) : (dats m 0 c).arrAt 6 cfg0.N = G6 m c := by
  refine (dats m 0 c).arrAt_eq_of_after_last 6 t0_0 (by decide +kernel) _ fun j => ?_
  blk_simp
  rw [after0_6]
  unfold outsAt0
  dsimp only
  frame_out
  simp only [read_unread_whole]
  erw [read_block m c (View.whole cc0_scratch0)]
  canon_tiles j h
  · exact hi6 m c j _ h0 h1 h2
  · exact lo6 m c j _ h0 h1 h2

theorem out7 (c : Dev nD) : (dats m 0 c).arrAt 7 cfg0.N = G7 m c := by
  refine (dats m 0 c).arrAt_eq_of_after_last 7 t0_0 (by decide +kernel) _ fun j => ?_
  blk_simp
  rw [after0_7]
  unfold outsAt0
  dsimp only
  frame_out
  simp only [read_unread_whole]
  erw [read_block m c (View.whole cc0_scratch0)]
  canon_tiles j h
  · exact hi7 m c j _ h0 h1 h2
  · exact lo7 m c j _ h0 h1 h2

end Cert.KernelIdeal.Tied
end
-- ==== Proof.RefHost.lean ====
/- What the reference's host line leaves in the two gathered arrays: the rows of the codes and the scales that `max (nbr, 0)` names. -/
module

public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ReferenceIdeal.Tied

open Cert.ReferenceIdeal Cert.ReferenceIdeal.Gen Idealize.ShloMosaic Idealize.ShloMosaic.TcCoe Idealize.SL.Sem
open Idealize.ShloMosaic.Pipeline (Dat)
open Cert.Tie

/-- The gather of code rows, read at an index: both start components are clamped into the table. -/
theorem gather_codes_apply {α : Type} (x : S2x896x320.Idx → α) (idx : IVec S2x224x8x2 32) (b : Fin 2) (t : Fin 224) (k : Fin 8) (c : Fin 320) :
    Host.gather gather_S2x896x320_S2x224x8x2_S2x224x8x320_3_01_n_n_01_3_11320 x idx (ix4 b t k c)
      = x (ix3 ⟨min (idx (ix4 b t k 0)).toInt.toNat 1, by omega⟩ ⟨min (idx (ix4 b t k 1)).toInt.toNat 895, by omega⟩ c) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have ha : a = 0 ∨ a = 1 ∨ a = 2 := by revert a; decide
  rcases ha with rfl | rfl | rfl
  · rw [GatherDims.offCoord_eq_zero _ _ _ (by decide)]
    unfold GatherDims.start
    rw [dif_pos (by decide)]
    simp only [Nat.add_zero]
    show min (idx _).toInt.toNat 1 = min (idx _).toInt.toNat 1
    congr 4
    funext d
    match d with
    | ⟨0, _⟩ => rfl
    | ⟨1, _⟩ => rfl
    | ⟨2, _⟩ => rfl
    | ⟨3, _⟩ => rfl
  · rw [GatherDims.offCoord_eq_zero _ _ _ (by decide)]
    unfold GatherDims.start
    rw [dif_pos (by decide)]
    simp only [Nat.add_zero]
    show min (idx _).toInt.toNat 895 = min (idx _).toInt.toNat 895
    congr 4
    funext d
    match d with
    | ⟨0, _⟩ => rfl
    | ⟨1, _⟩ => rfl
    | ⟨2, _⟩ => rfl
    | ⟨3, _⟩ => rfl
  · unfold GatherDims.start
    rw [dif_neg (by decide)]
    unfold GatherDims.offCoord
    rw [dif_pos (by decide)]
    simp only [Nat.zero_add]
    rfl

/-- The gather of scales, read at an index. -/
theorem gather_scales_apply {α : Type} (x : S2x896.Idx → α) (idx : IVec S2x224x8x2 32) (b : Fin 2) (t : Fin 224) (k : Fin 8) :
    Host.gather gather_S2x896_S2x224x8x2_S2x224x8_n_01_n_n_01_3_11 x idx (ix3 b t k)
      = x (ix2 ⟨min (idx (ix4 b t k 0)).toInt.toNat 1, by omega⟩ ⟨min (idx (ix4 b t k 1)).toInt.toNat 895, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have ha : a = 0 ∨ a = 1 := by revert a; decide
  rcases ha with rfl | rfl
  · rw [GatherDims.offCoord_eq_zero _ _ _ (by decide)]
    unfold GatherDims.start
    rw [dif_pos (by decide)]
    simp only [Nat.add_zero]
    show min (idx _).toInt.toNat 1 = min (idx _).toInt.toNat 1
    congr 4
    funext d
    match d with
    | ⟨0, _⟩ => rfl
    | ⟨1, _⟩ => rfl
    | ⟨2, _⟩ => rfl
    | ⟨3, _⟩ => rfl
  · rw [GatherDims.offCoord_eq_zero _ _ _ (by decide)]
    unfold GatherDims.start
    rw [dif_pos (by decide)]
    simp only [Nat.add_zero]
    show min (idx _).toInt.toNat 895 = min (idx _).toInt.toNat 895
    congr 4
    funext d
    match d with
    | ⟨0, _⟩ => rfl
    | ⟨1, _⟩ => rfl
    | ⟨2, _⟩ => rfl
    | ⟨3, _⟩ => rfl

variable (m : (ℓ : Loc nD τ sig) → Buf (Elt Ideal) ℓ)

/-- The start indices of the two gathers: the batch's number and `max (nbr, 0)`, each wrapped if negative. -/
def starts (n : IVec S2x224x8 32) : IVec S2x224x8x2 32 :=
  concatenate S2x224x8x2 3
    [⟨S2x224x8x1, broadcastInDim S2x224x8x1 ![0, 1, 2] bcast_S2x224x8_S2x224x8x1_0_1_2
        (broadcastInDim S2x224x8 ![0, 1, 2] bcast_S2x1x1_S2x224x8_0_1_2
          (select (cmpi .slt (broadcastInDim S2x1x1 ![0] bcast_S2_S2x1x1_0 (iotaInDim S2 32 0)) (broadcastInDim S2x1x1 ![] bcast_S_S2x1x1 (constantI S_ 32 0#32)))
            (addi (broadcastInDim S2x1x1 ![0] bcast_S2_S2x1x1_0 (iotaInDim S2 32 0)) (broadcastInDim S2x1x1 ![] bcast_S_S2x1x1 (constantI S_ 32 2#32)))
            (broadcastInDim S2x1x1 ![0] bcast_S2_S2x1x1_0 (iotaInDim S2 32 0))))⟩,
     ⟨S2x224x8x1, broadcastInDim S2x224x8x1 ![0, 1, 2] bcast_S2x224x8_S2x224x8x1_0_1_2
        (select (cmpi .slt (maxsi n (broadcastInDim S2x224x8 ![] bcast_S_S2x224x8 (constantI S_ 32 0#32))) (broadcastInDim S2x224x8 ![] bcast_S_S2x224x8 (constantI S_ 32 0#32)))
          (addi (maxsi n (broadcastInDim S2x224x8 ![] bcast_S_S2x224x8 (constantI S_ 32 0#32))) (broadcastInDim S2x224x8 ![] bcast_S_S2x224x8 (constantI S_ 32 896#32)))
          (maxsi n (broadcastInDim S2x224x8 ![] bcast_S_S2x224x8 (constantI S_ 32 0#32))))⟩]
    concatenates_S2x224x8x1_S2x224x8x1_S2x224x8x2_d3

theorem V_codes (c : Dev nD) : V m c main_v18 = Host.gather gather_S2x896x320_S2x224x8x2_S2x224x8x320_3_01_n_n_01_3_11320 (m ((c.tc : Thread nD τ).loc main_arg0)) (starts (m ((c.tc : Thread nD τ).loc main_arg2))) := by
  entry_read
  rfl

theorem V_scales (c : Dev nD) : V m c main_v33 = Host.gather gather_S2x896_S2x224x8x2_S2x224x8_n_01_n_n_01_3_11 (m ((c.tc : Thread nD τ).loc main_arg1)) (starts (m ((c.tc : Thread nD τ).loc main_arg2))) := by
  entry_read
  rfl

theorem word_b : ∀ b : Fin 2, Scalar.select (IntOp.cmpi .slt (BitVec.ofNat 32 b.val) 0#32) (IntOp.addi (BitVec.ofNat 32 b.val) 2#32) (BitVec.ofNat 32 b.val) = BitVec.ofNat 32 b.val := by
  decide

theorem word_n (n : BitVec 32) : Scalar.select (IntOp.cmpi .slt (IntOp.maxsi n 0#32) 0#32) (IntOp.addi (IntOp.maxsi n 0#32) 896#32) (IntOp.maxsi n 0#32) = IntOp.maxsi n 0#32 := by
  have h : IntOp.cmpi .slt (IntOp.maxsi n 0#32) 0#32 = 0#1 := by
    unfold IntOp.maxsi
    split
    · rename_i h
      show BitVec.ofBool (n.slt 0#32) = 0#1
      have e : n.slt 0#32 = false := by
        simp only [BitVec.slt, decide_eq_true_eq, decide_eq_false_iff_not] at h ⊢
        omega
      rw [e]
      rfl
    · decide
  rw [h]
  rfl

theorem starts_0 (n : IVec S2x224x8 32) (b : Fin 2) (t : Fin 224) (k : Fin 8) : starts n (ix4 b t k 0) = BitVec.ofNat 32 b.val := by
  pointwise [starts]
  exact word_b b

theorem starts_1 (n : IVec S2x224x8 32) (b : Fin 2) (t : Fin 224) (k : Fin 8) : starts n (ix4 b t k 1) = IntOp.maxsi (n (ix3 b t k)) 0#32 := by
  pointwise [starts]
  exact word_n _

theorem word_b' : ∀ b : Fin 2, min (BitVec.ofNat 32 b.val).toInt.toNat 1 = b.val := by
  decide

theorem start_row (n : IVec S2x224x8 32) (b : Fin 2) (t : Fin 224) (k : Fin 8) :
    min (starts n (ix4 b t k 0)).toInt.toNat 1 = b.val ∧ min (starts n (ix4 b t k 1)).toInt.toNat 895 = (row (n (ix3 b t k))).val := by
  rw [starts_0, starts_1]
  exact ⟨word_b' b, rfl⟩

theorem gather_codes_starts {α : Type} (x : S2x896x320.Idx → α) (n : IVec S2x224x8 32) (b : Fin 2) (t : Fin 224) (k : Fin 8) (c : Fin 320) :
    Host.gather gather_S2x896x320_S2x224x8x2_S2x224x8x320_3_01_n_n_01_3_11320 x (starts n) (ix4 b t k c) = x (ix3 b (row (n (ix3 b t k))) c) := by
  rw [gather_codes_apply]
  obtain ⟨h0, h1⟩ := start_row n b t k
  exact congrArg x (congrArg₂ (fun p q => ix3 p q c) (Fin.ext h0) (Fin.ext h1))

theorem gather_scales_starts {α : Type} (x : S2x896.Idx → α) (n : IVec S2x224x8 32) (b : Fin 2) (t : Fin 224) (k : Fin 8) :
    Host.gather gather_S2x896_S2x224x8x2_S2x224x8_n_01_n_n_01_3_11 x (starts n) (ix3 b t k) = x (ix2 b (row (n (ix3 b t k)))) := by
  rw [gather_scales_apply]
  obtain ⟨h0, h1⟩ := start_row n b t k
  exact congrArg x (congrArg₂ (fun p q => ix2 p q) (Fin.ext h0) (Fin.ext h1))

/-- The gathered codes: the row that the neighbour's index names. -/
theorem codes_apply (c : Dev nD) (b : Fin 2) (t : Fin 224) (k : Fin 8) (x : Fin 320) :
    (V m c main_v18 : S2x224x8x320.Idx → EReal) (ix4 b t k x)
      = (m ((c.tc : Thread nD τ).loc main_arg0) : S2x896x320.Idx → EReal) (ix3 b (row ((m ((c.tc : Thread nD τ).loc main_arg2) : S2x224x8.Idx → BitVec 32) (ix3 b t k))) x) :=
  (congrFun (V_codes m c) _).trans (gather_codes_starts _ _ b t k x)

/-- The gathered scales. -/
theorem scales_apply (c : Dev nD) (b : Fin 2) (t : Fin 224) (k : Fin 8) :
    (V m c main_v33 : S2x224x8.Idx → EReal) (ix3 b t k)
      = (m ((c.tc : Thread nD τ).loc main_arg1) : S2x896.Idx → EReal) (ix2 b (row ((m ((c.tc : Thread nD τ).loc main_arg2) : S2x224x8.Idx → BitVec 32) (ix3 b t k)))) :=
  (congrFun (V_scales m c) _).trans (gather_scales_starts _ _ b t k)

end Cert.ReferenceIdeal.Tied
end
-- ==== Proof.RefValue.lean ====
/- The reference's two results, entry by entry. -/
module

public import proofs.«01_k».proof.Proof.Gen.ReferenceIdeal.Frame
public import proofs.«01_k».proof.Proof.RefHost
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ReferenceIdeal.Tied

open Cert.ReferenceIdeal Cert.ReferenceIdeal.Gen Idealize.ShloMosaic Idealize.ShloMosaic.TcCoe Idealize.SL.Sem
open Idealize.ShloMosaic.Pipeline (Dat)
open Cert.Tie

section
variable (x2 : Vec Ideal S2x224x8 .i32) (x0 : Vec Ideal S2x224x8x320 .fp8e4m3) (x1 : Vec Ideal S2x224x8 .f32)
  (x3 : Vec Ideal S8x320x384 .fp8e4m3) (x4 x5 : Vec Ideal S384 .f32)

/-- A row of the reference's convolution. -/
def rrow (b : Fin 2) (t : Fin 224) : Fin 384 → EReal := fun c => k0_pay4 x2 x0 x1 x3 x4 x5 (ix3 b t c)

theorem pay4_apply (b : Fin 2) (t : Fin 224) (c : Fin 384) : k0_pay4 x2 x0 x1 x3 x4 x5 (ix3 b t c)
    = (max ((∑ x : Fin 320, ∑ k : Fin 8, Scalar.select (IntOp.cmpi .sge (x2 (ix3 b t k)) 0#32) (x0 (ix4 b t k x) * x1 (ix3 b t k) * x3 (ix3 k x c) : EReal) 0)
        * x4 (ix1 c) + x5 (ix1 c)) 0 : EReal) := by
  pointwise [k0_pay4]

theorem pay5_apply (b : Fin 2) (t : Fin 224) : k0_pay5 x2 x0 x1 x3 x4 x5 (ix3 b t 0) = amax (rrow x2 x0 x1 x3 x4 x5 b t) := by
  pointwise [k0_pay5]
  rfl

theorem pay7_raw (b : Fin 2) (t : Fin 224) : k0_pay7 x2 x0 x1 x3 x4 x5 (ix3 b t 0) = (k0_pay5 x2 x0 x1 x3 x4 x5 (ix3 b t 0) * Ideal.ofBits .f32 991054117#32 : EReal) := by
  pointwise [k0_pay7]

theorem pay7_apply (b : Fin 2) (t : Fin 224) : k0_pay7 x2 x0 x1 x3 x4 x5 (ix3 b t 0) = vmax (rrow x2 x0 x1 x3 x4 x5 b t) :=
  (pay7_raw x2 x0 x1 x3 x4 x5 b t).trans (congrArg (fun z : EReal => z * Ideal.ofBits .f32 991054117#32) (pay5_apply x2 x0 x1 x3 x4 x5 b t))

theorem pay6_apply (x : Fin 247) : k0_pay6 (ix3 0 0 x) = IntOp.subi (BitVec.ofNat 32 x.val) 126#32 := by
  pointwise [k0_pay6]

end

theorem pay1_apply (a v : FVec Ideal S2x224x1 .f32) (b : Fin 2) (t : Fin 224) : k0_pay1 (F := Ideal) a k0_pay6 v (ix3 b t 0) = expo (a (ix3 b t 0)) (v (ix3 b t 0)) := by
  pointwise [k0_pay1]
  simp only [pay6_apply]
  unfold expo least
  split <;> rename_i h
  · rfl
  · rfl

theorem pay2_raw (a v : FVec Ideal S2x224x1 .f32) (i : IVec S1x1x247 32) (b : Fin 2) (t : Fin 224) : k0_pay2 (F := Ideal) a i v (ix3 b t 0)
    = (FloatOps.exp2 (F := Ideal) (φ := .f32) (FloatOps.sitofp .f32 (k0_pay1 (F := Ideal) a i v (ix3 b t 0))) : EReal) := by
  pointwise [k0_pay2]

theorem pay3_raw (y : FVec Ideal S2x224x384 .f32) (a v : FVec Ideal S2x224x1 .f32) (i : IVec S1x1x247 32) (b : Fin 2) (t : Fin 224) (c : Fin 384) :
    k0_pay3 (F := Ideal) y a i v (ix3 b t c) = (min (Ideal.ofBits .f32 1138753536#32) (max (Ideal.ofBits .f32 3286237184#32)
      (y (ix3 b t c) * FloatOps.exp2 (F := Ideal) (φ := .f32) ((0 : EReal) - FloatOps.sitofp (F := Ideal) .f32 (k0_pay1 (F := Ideal) a i v (ix3 b t 0)) : EReal))) : EReal) := by
  pointwise [k0_pay3]

section
variable (x2 : Vec Ideal S2x224x8 .i32) (x0 : Vec Ideal S2x224x8x320 .fp8e4m3) (x1 : Vec Ideal S2x224x8 .f32)
  (x3 : Vec Ideal S8x320x384 .fp8e4m3) (x4 x5 : Vec Ideal S384 .f32)

theorem pay8_eq : k0_pay8 x0 x1 x2 x3 x4 x5 = k0_pay5 x2 x0 x1 x3 x4 x5 := by
  unfold k0_pay8
  frame_out

theorem pay9_eq : k0_pay9 (F := Ideal) x0 x1 x2 x3 x4 x5 = k0_pay6 := rfl

theorem pay10_eq : k0_pay10 x0 x1 x2 x3 x4 x5 = k0_pay7 x2 x0 x1 x3 x4 x5 := by
  unfold k0_pay10
  frame_out

theorem pay1_row (b : Fin 2) (t : Fin 224) : k0_pay1 (F := Ideal) (k0_pay5 x2 x0 x1 x3 x4 x5) k0_pay6 (k0_pay7 x2 x0 x1 x3 x4 x5) (ix3 b t 0)
    = expo (amax (rrow x2 x0 x1 x3 x4 x5 b t)) (vmax (rrow x2 x0 x1 x3 x4 x5 b t)) := by
  rw [pay1_apply, pay5_apply, pay7_apply]

theorem pay2_row (b : Fin 2) (t : Fin 224) : k0_pay2 (F := Ideal) (k0_pay5 x2 x0 x1 x3 x4 x5) k0_pay6 (k0_pay7 x2 x0 x1 x3 x4 x5) (ix3 b t 0)
    = scale (rrow x2 x0 x1 x3 x4 x5 b t) := by
  rw [pay2_raw, pay1_row]
  rfl

theorem pay3_row (b : Fin 2) (t : Fin 224) (c : Fin 384) :
    k0_pay3 (F := Ideal) (k0_pay4 x2 x0 x1 x3 x4 x5) (k0_pay5 x2 x0 x1 x3 x4 x5) k0_pay6 (k0_pay7 x2 x0 x1 x3 x4 x5) (ix3 b t c)
    = quant (rrow x2 x0 x1 x3 x4 x5 b t) c := by
  rw [pay3_raw, pay1_row]
  rfl

end

variable (m : (ℓ : Loc nD τ sig) → Buf (Elt Ideal) ℓ)

theorem in_2 (c : Dev nD) : (iblk m c 2 t0_0 : Vec Ideal S2x224x8 .i32) = m ((c.tc : Thread nD τ).loc main_arg2) := by
  funext j
  idx_vars j
  blk_ext [iblk, V, t0_0]
  all_goals exact Nat.zero_add _

theorem in_3 (c : Dev nD) : (iblk m c 3 t0_0 : Vec Ideal S8x320x384 .fp8e4m3) = m ((c.tc : Thread nD τ).loc main_arg3) := by
  funext j
  idx_vars j
  blk_ext [iblk, V, t0_0]
  all_goals exact Nat.zero_add _

theorem in_4 (c : Dev nD) : (iblk m c 4 t0_0 : Vec Ideal S384 .f32) = m ((c.tc : Thread nD τ).loc main_arg4) := by
  funext j
  idx_vars j
  blk_ext [iblk, V, t0_0]
  all_goals exact Nat.zero_add _

theorem in_5 (c : Dev nD) : (iblk m c 5 t0_0 : Vec Ideal S384 .f32) = m ((c.tc : Thread nD τ).loc main_arg5) := by
  funext j
  idx_vars j
  blk_ext [iblk, V, t0_0]
  all_goals exact Nat.zero_add _

theorem in_0 (c : Dev nD) : (iblk m c 0 t0_0 : Vec Ideal S2x224x8x320 .fp8e4m3) = V m c main_v18 := by
  funext j
  idx_vars j
  blk_ext [iblk, t0_0]
  all_goals exact Nat.zero_add _

theorem in_1 (c : Dev nD) : (iblk m c 1 t0_0 : Vec Ideal S2x224x8 .f32) = V m c main_v33 := by
  funext j
  idx_vars j
  blk_ext [iblk, t0_0]
  all_goals exact Nat.zero_add _

/-- The convolution on this program's arguments. -/
def out (c : Dev nD) : Fin 2 → Fin 224 → Fin 384 → EReal :=
  conv (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem rrow_eq (c : Dev nD) (b : Fin 2) (t : Fin 224) :
    rrow (iblk m c 2 t0_0) (iblk m c 0 t0_0) (iblk m c 1 t0_0) (iblk m c 3 t0_0) (iblk m c 4 t0_0) (iblk m c 5 t0_0) b t = out m c b t := by
  funext x
  unfold rrow out conv
  rw [pay4_apply, in_0, in_1, in_2, in_3, in_4, in_5]
  refine congrArg (fun z : EReal => max (z * _ + _) 0) ?_
  refine Finset.sum_congr rfl fun f _ => Finset.sum_congr rfl fun k _ => ?_
  exact congrArg₂ (fun p q : EReal => Scalar.select _ (p * q * _) 0) (codes_apply m c b t k f) (scales_apply m c b t k)

/-- The first result. -/
def G6 (c : Dev nD) : S2x224x384.Idx → EReal := fun j => quant (out m c ⟨(j 0).val, (j 0).isLt⟩ ⟨(j 1).val, (j 1).isLt⟩) ⟨(j 2).val, (j 2).isLt⟩

/-- The second result. -/
def G7 (c : Dev nD) : S2x224x1.Idx → EReal := fun j => scale (out m c ⟨(j 0).val, (j 0).isLt⟩ ⟨(j 1).val, (j 1).isLt⟩)

theorem at6 (c : Dev nD) (j y : S2x224x384.Idx) (h0 : (y 0).val = (j 0).val) (h1 : (y 1).val = (j 1).val) (h2 : (y 2).val = (j 2).val) :
    k0_pay3 (F := Ideal) (k0_pay4 (iblk m c 2 t0_0) (iblk m c 0 t0_0) (iblk m c 1 t0_0) (iblk m c 3 t0_0) (iblk m c 4 t0_0) (iblk m c 5 t0_0))
      (k0_pay5 (iblk m c 2 t0_0) (iblk m c 0 t0_0) (iblk m c 1 t0_0) (iblk m c 3 t0_0) (iblk m c 4 t0_0) (iblk m c 5 t0_0)) k0_pay6
      (k0_pay7 (iblk m c 2 t0_0) (iblk m c 0 t0_0) (iblk m c 1 t0_0) (iblk m c 3 t0_0) (iblk m c 4 t0_0) (iblk m c 5 t0_0)) j = G6 m c y := by
  idx_vars j
  idx_vars y
  obtain rfl : y0 = j0 := Fin.ext h0
  obtain rfl : y1 = j1 := Fin.ext h1
  obtain rfl : y2 = j2 := Fin.ext h2
  rw [pay3_row, rrow_eq]
  rfl

theorem at7 (c : Dev nD) (j y : S2x224x1.Idx) (h0 : (y 0).val = (j 0).val) (h1 : (y 1).val = (j 1).val) (h2 : (y 2).val = (j 2).val) :
    k0_pay2 (F := Ideal)
      (k0_pay5 (iblk m c 2 t0_0) (iblk m c 0 t0_0) (iblk m c 1 t0_0) (iblk m c 3 t0_0) (iblk m c 4 t0_0) (iblk m c 5 t0_0)) k0_pay6
      (k0_pay7 (iblk m c 2 t0_0) (iblk m c 0 t0_0) (iblk m c 1 t0_0) (iblk m c 3 t0_0) (iblk m c 4 t0_0) (iblk m c 5 t0_0)) j = G7 m c y := by
  idx_vars j
  idx_vars y
  obtain rfl : y0 = j0 := Fin.ext h0
  obtain rfl : y1 = j1 := Fin.ext h1
  obtain rfl : j2 = 0 := Subsingleton.elim _ _
  rw [pay2_row, rrow_eq]
  rfl

theorem out6 (c : Dev nD) : (dats m 0 c).arrAt 6 cfg0.N = G6 m c := by
  refine (dats m 0 c).arrAt_eq_of_after_last 6 t0_0 (by decide +kernel) _ fun j => ?_
  blk_simp
  rw [after0_6]
  frame_out
  rw [pay8_eq, pay9_eq, pay10_eq]
  exact at6 m c j j rfl rfl rfl

theorem out7 (c : Dev nD) : (dats m 0 c).arrAt 7 cfg0.N = G7 m c := by
  refine (dats m 0 c).arrAt_eq_of_after_last 7 t0_0 (by decide +kernel) _ fun j => ?_
  blk_simp
  rw [after0_7]
  frame_out
  rw [pay8_eq, pay9_eq, pay10_eq]
  exact at7 m c j j rfl rfl rfl

end Cert.ReferenceIdeal.Tied
end
-- ==== Proof.Tie.lean ====
/- The kernel's convolution is the reference's. The kernel selects a neighbour's row by a sum over all rows in which at most one term is
   not zero, and contracts neighbours and features in one flat sum; the reference reads the row that the index names and keeps the
   neighbours whose index is not negative. -/
module

public import proofs.«01_k».proof.Proof.Spec
public import Idealize.ShloMosaic.Lib.Pointwise
public import Idealize.ShloMosaic.Lib.Pipeline.ValueKit

@[expose] public section

set_option maxRecDepth 16384

noncomputable section

namespace Cert.Tie

open Idealize.ShloMosaic

theorem cmpi_eq_one (r n : BitVec 32) (h : r = n) : IntOp.cmpi .eq r n = 1#1 := by
  subst h
  simp [IntOp.cmpi]

theorem cmpi_eq_zero (r n : BitVec 32) (h : r ≠ n) : IntOp.cmpi .eq r n = 0#1 := by
  show BitVec.ofBool (r == n) = 0#1
  rw [beq_eq_false_iff_ne.mpr h]
  rfl

theorem sge_one (n : BitVec 32) (h : 0 ≤ n.toInt) : IntOp.cmpi .sge n 0#32 = 1#1 := by
  simp [IntOp.cmpi, BitVec.sle, h]

theorem sge_zero (n : BitVec 32) (h : n.toInt < 0) : IntOp.cmpi .sge n 0#32 = 0#1 := by
  show BitVec.ofBool (decide ((0#32).toInt ≤ n.toInt)) = 0#1
  rw [decide_eq_false (by rw [BitVec.toInt_zero]; omega)]
  rfl

theorem toInt_row : ∀ r : Fin 896, (BitVec.ofNat 32 r.val).toInt = (r.val : ℤ) := by
  decide +kernel

theorem row_val (n : BitVec 32) (h0 : 0 ≤ n.toInt) (h1 : n.toInt < 896) : ((row n).val : ℤ) = n.toInt := by
  have e : IntOp.maxsi n 0#32 = n := by
    unfold IntOp.maxsi
    split
    · rfl
    · rename_i h
      simp only [BitVec.slt, decide_eq_true_eq] at h
      have z : (0#32).toInt = 0 := rfl
      exact BitVec.eq_of_toInt_eq (by omega)
  show ((min (IntOp.maxsi n 0#32).toInt.toNat 895 : ℕ) : ℤ) = n.toInt
  rw [e]
  omega

/-- At most one row is selected: the one that a valid index names. -/
theorem one_hot (n : BitVec 32) (h : n.toInt < 896) (f : Fin 896 → EReal) :
    (∑ r : Fin 896, Scalar.select (IntOp.cmpi .eq (BitVec.ofNat 32 r.val) n) (f r) 0)
      = Scalar.select (IntOp.cmpi .sge n 0#32) (f (row n)) 0 := by
  by_cases h0 : 0 ≤ n.toInt
  · rw [sge_one n h0, Finset.sum_eq_single (row n)]
    · rw [cmpi_eq_one _ _ (BitVec.eq_of_toInt_eq (by rw [toInt_row, row_val n h0 h]))]
    · intro r _ hr
      rw [cmpi_eq_zero]
      · rfl
      · intro e
        refine hr (Fin.ext ?_)
        have e1 := toInt_row r
        have e2 := row_val n h0 h
        rw [e] at e1
        omega
    · intro hn
      exact absurd (Finset.mem_univ _) hn
  · rw [sge_zero n (by omega)]
    refine Finset.sum_eq_zero fun r _ => ?_
    refine congrArg (fun p => Scalar.select p (f r) (0 : EReal)) (cmpi_eq_zero _ _ fun e => ?_)
    have e1 := toInt_row r
    rw [e] at e1
    omega

theorem select_mul (p : BitVec 1) (a b : EReal) : Scalar.select p a 0 * b = Scalar.select p (a * b) 0 := by
  unfold Scalar.select
  split
  · rfl
  · exact zero_mul b

section
variable (X : (⟨3, ![2, 896, 320]⟩ : Shape).Idx → EReal) (S : (⟨2, ![2, 896]⟩ : Shape).Idx → EReal)
  (N : (⟨3, ![2, 224, 8]⟩ : Shape).Idx → BitVec 32) (W : (⟨3, ![8, 320, 384]⟩ : Shape).Idx → EReal)
  (A B : (⟨1, ![384]⟩ : Shape).Idx → EReal)

/-- The kernel's flat sum over neighbours and features, split in two and summed the other way round. -/
theorem flat_sum (g : Fin 8 → Fin 320 → EReal) :
    (∑ q : Fin 2560, g ⟨q.val / 320, by omega⟩ ⟨q.val % 320, by omega⟩) = ∑ x : Fin 320, ∑ k : Fin 8, g k x := by
  rw [Finset.sum_comm]
  exact Fin.sum_divmod_fin (A := 8) (S := 320) g

theorem convK_eq (h : ∀ b t k, (N (ix3 b t k)).toInt < 896) (b : Fin 2) (t : Fin 224) : convK X S N W A B b t = conv X S N W A B b t := by
  funext c
  unfold convK conv
  rw [flat_sum (fun k x => tile X S N b k t x * W (ix3 k x c))]
  refine congrArg (fun z : EReal => max (z * A (ix1 c) + B (ix1 c)) 0) ?_
  refine Finset.sum_congr rfl fun x _ => Finset.sum_congr rfl fun k _ => ?_
  unfold tile
  rw [one_hot _ (h b t k) (fun r => S (ix2 b r) * X (ix3 b r x)), select_mul, mul_comm (S _) (X _)]

end

end Cert.Tie
end
-- ==== Proof.lean ====
/- The certificate's claims: the three programs run, leave their arguments as they were and end with every counter at zero; the
   idealized kernel is the kernel's own text; and over the extended reals the kernel's two results are the reference's. -/
module

public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_nbr_in_rows
public import proofs.«01_k».proof.Proof.KernelValue
public import proofs.«01_k».proof.Proof.RefValue
public import proofs.«01_k».proof.Proof.Tie
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- The precondition, element by element: every neighbour's index is less than the number of rows. -/
theorem nbr_lt [Cert.Pre_nbr_in_rows.Facts] (x0 : FVec Ideal Cert.Pre_nbr_in_rows.S2x896x320 .fp8e4m3) (x1 : FVec Ideal Cert.Pre_nbr_in_rows.S2x896 .f32)
    (x2 : IVec Cert.Pre_nbr_in_rows.S2x224x8 32) (x3 : FVec Ideal Cert.Pre_nbr_in_rows.S8x320x384 .fp8e4m3) (x4 x5 : FVec Ideal Cert.Pre_nbr_in_rows.S384 .f32)
    (h : Cert.Pre_nbr_in_rows.fn (F := Ideal) x0 x1 x2 x3 x4 x5 = fun _ => 1#1) (b : Fin 2) (t : Fin 224) (k : Fin 8) : (x2 (ix3 b t k)).toInt < 896 := by
  haveI : Subsingleton Cert.Pre_nbr_in_rows.S_.Idx := ⟨fun i j => funext fun a => a.elim0⟩
  have e := Host.reduce_andi_all _ _ _ _ (fun a => a.elim0) (congrFun h (fun a => a.elim0)) (ix3 b t k)
  exact IntOp.cmpi_slt.1 e

/-- Both programs' convolutions, from memories that agree on the arguments. -/
theorem out_eq [Cert.Pre_nbr_in_rows.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_nbr_in_rows m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Tied.out m' c = Cert.KernelIdeal.Tied.out m c := by
  obtain ⟨h0, h1, h2, h3, h4, h5⟩ := h
  funext b t
  unfold Cert.ReferenceIdeal.Tied.out Cert.KernelIdeal.Tied.out
  rw [h0, h1, h2, h3, h4, h5]
  exact (Cert.Tie.convK_eq _ _ _ _ _ _ (nbr_lt _ _ _ _ _ _ (hp c)) b t).symm

/-- The kernel's two results are the reference's. -/
theorem algebraic [Cert.Pre_nbr_in_rows.Facts] : Cert.algebraic_KernelIdeal_ReferenceIdeal_pre_nbr_in_rows := by
  intro m g m' g' hp hm
  refine ⟨fun c => Cert.KernelIdeal.Tied.G6 m c, fun c => Cert.KernelIdeal.Tied.G7 m c, ?_, ?_⟩
  · refine (θ_run _ _ _).mono (fun r h c => ?_) (Cert.KernelIdeal.Value.run_blocks m g)
    obtain ⟨e0, e1, e⟩ := h c
    exact ⟨e0.trans (Cert.KernelIdeal.Tied.out6 m c), e1.trans (Cert.KernelIdeal.Tied.out7 m c), e⟩
  · refine (θ_run _ _ _).mono (fun r h c => ?_) (θ_run_and (Cert.ReferenceIdeal.Gen.run_main m' g') (Cert.ReferenceIdeal.Gen.unchanged m' g'))
    have e := out_eq m m' hp c (hm c)
    refine ⟨((h.1 c).1 6).trans ((Cert.ReferenceIdeal.Tied.out6 m' c).trans ?_), ((h.1 c).1 7).trans ((Cert.ReferenceIdeal.Tied.out7 m' c).trans ?_), h.2 c⟩
    · unfold Cert.ReferenceIdeal.Tied.G6 Cert.KernelIdeal.Tied.G6
      rw [e]
    · unfold Cert.ReferenceIdeal.Tied.G7 Cert.KernelIdeal.Tied.G7
      rw [e]

theorem claim : Cert.Claim := ⟨Cert.Kernel.Gen.facts, Cert.KernelIdeal.Gen.facts, Cert.ReferenceIdeal.Gen.facts, Cert.Pre_nbr_in_rows.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  letI := Cert.Pre_nbr_in_rows.Gen.facts
  algebraic⟩

end Cert.Proof

end
